-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_targets_nonneg [hPre_targets_nonneg : Cert.Pre_targets_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_targets_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_targets_nonneg [hPre_targets_nonneg : Cert.Pre_targets_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_targets_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_targets_nonneg [hKernelIdeal : Cert.KernelIdeal.Facts] [hPre_targets_nonneg : Cert.Pre_targets_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_targets_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_targets_nonneg [hReferenceIdeal : Cert.ReferenceIdeal.Facts] [hPre_targets_nonneg : Cert.Pre_targets_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_targets_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_targets_nonneg [hKernelIdeal : Cert.KernelIdeal.Facts] [hReferenceIdeal : Cert.ReferenceIdeal.Facts] [hPre_targets_nonneg : Cert.Pre_targets_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_targets_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_targets_nonneg : Cert.Pre_targets_nonneg.Facts),
    quiescent_Kernel (hKernel := hKernel)
    ∧ quiescent_KernelIdeal (hKernelIdeal := hKernelIdeal)
    ∧ quiescent_KernelIdeal_pre_targets_nonneg (hKernelIdeal := hKernelIdeal) (hPre_targets_nonneg := hPre_targets_nonneg)
    ∧ quiescent_ReferenceIdeal (hReferenceIdeal := hReferenceIdeal)
    ∧ quiescent_ReferenceIdeal_pre_targets_nonneg (hReferenceIdeal := hReferenceIdeal) (hPre_targets_nonneg := hPre_targets_nonneg)
    ∧ preserves_Kernel_KernelIdeal
    ∧ algebraic_KernelIdeal_ReferenceIdeal_pre_targets_nonneg (hKernelIdeal := hKernelIdeal) (hReferenceIdeal := hReferenceIdeal) (hPre_targets_nonneg := hPre_targets_nonneg)
-- ==== Pre_targets_nonneg.lean ====
abbrev S32x8x100000 : Shape := ⟨3, ![32, 8, 100000]⟩
abbrev S32x8 : Shape := ⟨2, ![32, 8]⟩
abbrev S100000 : Shape := ⟨1, ![100000]⟩
abbrev S1 : Shape := ⟨1, ![1]⟩
abbrev S_ : Shape := ⟨0, ![]⟩

class Facts : Prop where
  bcast_S_S32x8 : S_.BroadcastsInDim S32x8 (![] : Fin 0 → Fin S32x8.rank)
  reducesTo_S32x8_S_d0_1 : S32x8.ReducesTo [0, 1] S_
  h_S_ : 0 < S_.numel

variable [Facts]

def fn {F : FTy → Type} [FloatOps F] (main_arg0 : FVec F S32x8x100000 .f32) (main_arg1 : IVec S32x8 32) (main_arg2 : FVec F S100000 .f32) (main_arg3 : FVec F S100000 .f32) (main_arg4 : FVec F S100000 .f32) (main_arg5 : FVec F S1 .f32) : IVec S_ 1 :=
  let main_c : IVec S_ 32 := constantI S_ 32 0#32
  let main_v0 : IVec S32x8 32 := broadcastInDim S32x8 ![] bcast_S_S32x8 main_c
  let main_v1 : IVec S32x8 1 := cmpi .sge main_arg1 main_v0
  let main_c_0 : IVec S_ 1 := constantI S_ 1 1#1
  let main_v2 : IVec S_ 1 := (fun x v => Host.reduce IntOp.andi x v reducesTo_S32x8_S_d0_1 h_S_) main_v1 main_c_0
  main_v2
-- ==== Kernel.lean ====
abbrev S32x8x100000 : Shape := ⟨3, ![32, 8, 100000]⟩
abbrev S32x8 : Shape := ⟨2, ![32, 8]⟩
abbrev S100000 : Shape := ⟨1, ![100000]⟩
abbrev S1 : Shape := ⟨1, ![1]⟩
abbrev S256x100000 : Shape := ⟨2, ![256, 100000]⟩
abbrev S256 : Shape := ⟨1, ![256]⟩
abbrev S256x1024 : Shape := ⟨2, ![256, 1024]⟩
abbrev S1024 : Shape := ⟨1, ![1024]⟩
abbrev S256x1 : Shape := ⟨2, ![256, 1]⟩
abbrev S1x1024 : Shape := ⟨2, ![1, 1024]⟩

abbrev nBuf : Space → Nat
  | .hbm => 10
  | .vmem => 11
  | .smem => 1
  | _ => 0

abbrev bufTy : (tb : Table) → Fin (tcTables nBuf tb) → BufTy
  | .hbm, ⟨0, _⟩ => ⟨S32x8x100000, .f32⟩
  | .hbm, ⟨1, _⟩ => ⟨S32x8, .i32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S1, .f32⟩
  | .hbm, ⟨6, _⟩ => ⟨S256x100000, .f32⟩
  | .hbm, ⟨7, _⟩ => ⟨S256, .i32⟩
  | .hbm, ⟨8, _⟩ => ⟨S256x100000, .f32⟩
  | .hbm, ⟨9, _⟩ => ⟨S32x8x100000, .f32⟩
  | .local _ .vmem, ⟨0, _⟩ => ⟨S256, .i32⟩
  | .local _ .vmem, ⟨1, _⟩ => ⟨S256x1024, .f32⟩
  | .local _ .vmem, ⟨2, _⟩ => ⟨S256x1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S256x1024, .f32⟩
  | .local _ .vmem, ⟨10, _⟩ => ⟨S256x1024, .f32⟩
  | .local _ .smem, ⟨0, _⟩ => ⟨S1, .f32⟩
  | _, _ => ⟨S32x8x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![98], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x8x100000 : Shape := ⟨3, ![32, 8, 100000]⟩
abbrev S32x8 : Shape := ⟨2, ![32, 8]⟩
abbrev S100000 : Shape := ⟨1, ![100000]⟩
abbrev S1 : Shape := ⟨1, ![1]⟩
abbrev S256 : Shape := ⟨1, ![256]⟩
abbrev S_ : Shape := ⟨0, ![]⟩
abbrev S256x1 : Shape := ⟨2, ![256, 1]⟩
abbrev S1x1x100000 : Shape := ⟨3, ![1, 1, 100000]⟩

abbrev nBuf : Space → Nat
  | .hbm => 54
  | .vmem => 0
  | .smem => 0
  | _ => 0

abbrev bufTy : (tb : Table) → Fin (tcTables nBuf tb) → BufTy
  | .hbm, ⟨0, _⟩ => ⟨S32x8x100000, .f32⟩
  | .hbm, ⟨1, _⟩ => ⟨S32x8, .i32⟩
  | .hbm, ⟨2, _⟩ => ⟨S100000, .f32⟩
  | .hbm, ⟨3, _⟩ => ⟨S100000, .f32⟩
  | .hbm, ⟨4, _⟩ => ⟨S100000, .f32⟩
  | .hbm, ⟨5, _⟩ => ⟨S1, .f32⟩
  | .hbm, ⟨6, _⟩ => ⟨S256, .i32⟩
  | .hbm, ⟨7, _⟩ => ⟨S_, .i32⟩
  | .hbm, ⟨8, _⟩ => ⟨S100000, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S_, .i32⟩
  | .hbm, ⟨22, _⟩ => ⟨S256, .i32⟩
  | .hbm, ⟨23, _⟩ => ⟨S100000, .i32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .i1⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S100000, .f32⟩
  | .hbm, ⟨51, _⟩ => ⟨S1x1x100000, .f32⟩
  | .hbm, ⟨52, _⟩ => ⟨S32x8x100000, .f32⟩
  | .hbm, ⟨53, _⟩ => ⟨S32x8x100000, .f32⟩
  | _, _ => ⟨S32x8x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_call2_v0 : Ref sig .tc := ⟨.hbm, 36, rfl⟩
abbrev main_call2_v1 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_cst_7 : Ref sig .tc := ⟨.hbm, 43, rfl⟩
abbrev main_v22 : Ref sig .tc := ⟨.hbm, 44, rfl⟩
abbrev main_v23 : Ref sig .tc := ⟨.hbm, 45, rfl⟩
abbrev main_cst_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]
-- ==== Proof.Payload.lean ====
/-
  What the kernel's body stores, read at one element.  The stored block is a function of the whole loaded blocks, but its
  element in row `r` and column `c` looks only at column `c` of the three vocabulary vectors, at element `(r, c)` of the
  logits, and at the targets.  So the columns past the end of the vocabulary, where the last block's loads hold words
  nothing names, influence only columns that are never written back.
-/
module

public import proofs.«01_k».proof.Proof.Gen.KernelIdeal.Skeleton
public import Idealize.ShloMosaic.Lib.Pointwise

@[expose] public section

set_option maxRecDepth 16384

noncomputable section

namespace Cert.K

open Cert.KernelIdeal Cert.KernelIdeal.Gen
open Idealize.ShloMosaic

variable {F : FTy → Type} [FloatOps F]

/-- The stored element of column `c` as a function of that column's numbers: the targets, the running token total, and the
    column's token count, target probability, boost and logit. -/
def elemAt (i : grid0.Coords) (tgt : Vec F S256 .i32) (total tok dist boost x : F .f32) (c : Fin 1024) : F .f32 :=
  k0_pay1 i tgt (fun _ => tok) total (fun _ => dist) (fun _ => boost) (fun _ => x) (ix2 0 c)

/-- The stored block at row `r`, column `c`. -/
theorem pay_apply (i : grid0.Coords) (tgt : Vec F S256 .i32) (tok : Vec F S1024 .f32) (total : F .f32)
    (dist boost : Vec F S1024 .f32) (x : Vec F S256x1024 .f32) (r : Fin 256) (c : Fin 1024) :
    k0_pay1 i tgt tok total dist boost x (ix2 r c)
      = elemAt i tgt total (tok (ix1 c)) (dist (ix1 c)) (boost (ix1 c)) (x (ix2 r c)) c := by
  pointwise [k0_pay1, elemAt]

end Cert.K

end
-- ==== Proof.Body.lean ====
/-
  The kernel's body on any staging buffers: it loads six whole buffers, computes one block, and stores it over the whole
  output buffer; the inputs are left as they were.
-/
module

public import proofs.«01_k».proof.Proof.Payload
public import proofs.«01_k».proof.Proof.Gen.KernelIdeal.Frame

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- A load through the rectangle of all elements reads what the buffer holds. -/
theorem readAt_all {κ : Kind} {sp : Space} {s : Shape} {e : EltTy} (v : View sig κ sp s e) {off : Fin s.rank → Nat}
    (h : off = fun _ => 0) (inb : ∀ a, off a + s.size a ≤ s.size a) (f : v.ty.Contents (Elt F)) :
    v.readAt (Elt F) (Rect.unit off s.size inb).toLoadRect f = v.read (Elt F) f := by
  rw [View.readAt_eq_ld, View.ld_unit_zero h]

/-- An unmasked store through the rectangle of all elements leaves its payload. -/
theorem read_write_all {κ : Kind} {sp : Space} {s : Shape} {e : EltTy} (M : Memref sig κ sp s e) {off : Fin s.rank → Nat}
    (h : off = fun _ => 0) (inb : ∀ a, off a + s.size a ≤ s.size a) (f : M.view.ty.Contents (Elt F))
    (w : s.Idx → Elt F e) :
    M.view.read (Elt F) ((M.access (Rect.unit off s.size inb)).write (Elt F) f w Finset.univ) = w := by
  subst h
  funext x
  have hw := View.read_slice_write_emb (Val := Elt F) (v := M.view) (Rect.whole s) f w (Finset.mem_univ x)
  rwa [Rect.emb_whole_apply] at hw

/-- The body on seven whole buffers, for any continuation: the inputs come back as they were, and the output buffer
    holds the block `k0_pay1` computes from them, whatever it held before. -/
theorem body_spec (c : Dev nD) (i : grid0.Coords)
    (a1 : Memref sig .tc .vmem S256 .i32) (h1 : a1.IsWhole) (a2 : Memref sig .tc .smem S1 .f32) (h2 : a2.IsWhole)
    (a3 : Memref sig .tc .vmem S256x1024 .f32) (h3 : a3.IsWhole) (a4 : Memref sig .tc .vmem S1024 .f32) (h4 : a4.IsWhole)
    (a5 : Memref sig .tc .vmem S1024 .f32) (h5 : a5.IsWhole) (a6 : Memref sig .tc .vmem S1024 .f32) (h6 : a6.IsWhole)
    (a7 : Memref sig .tc .vmem S256x1024 .f32) (h7 : a7.IsWhole)
    (tgt : S256.Idx → Elt F .i32) (total : S1.Idx → Elt F .f32) (x : S256x1024.Idx → Elt F .f32)
    (boost dist tok : S1024.Idx → Elt F .f32) (y : S256x1024.Idx → Elt F .f32) (K : PUnit → sProp 𝕄) :
    iprop((owns (c : Thread nD τ) a1 fullShare tgt ∗ owns (c : Thread nD τ) a2 fullShare total
            ∗ owns (c : Thread nD τ) a3 fullShare x ∗ owns (c : Thread nD τ) a4 fullShare boost
            ∗ owns (c : Thread nD τ) a5 fullShare dist ∗ owns (c : Thread nD τ) a6 fullShare tok
            ∗ owns (c : Thread nD τ) a7 fullShare y)
          ∗ (iprop(owns (c : Thread nD τ) a1 fullShare tgt ∗ owns (c : Thread nD τ) a2 fullShare total
            ∗ owns (c : Thread nD τ) a3 fullShare x ∗ owns (c : Thread nD τ) a4 fullShare boost
            ∗ owns (c : Thread nD τ) a5 fullShare dist ∗ owns (c : Thread nD τ) a6 fullShare tok
            ∗ owns (c : Thread nD τ) a7 fullShare (k0_pay1 i tgt tok (total (ix1 0)) dist boost x)) -∗ K ⟨⟩))
      ⊢ wp frame (wpE (defs₀ (F := F)) Variants.none c none) Set.univ
          (cc0__tc_body i a1 h1 a2 h2 a3 h3 a4 h4 a5 h5 a6 h6 a7 h7) K := by
  simp only [cc0__tc_body_eq_skeleton]; unfold cc0__tc_body_skel
  unfold owns smemLoad smemLoadElt
  simp only [Prog.lift, Prog.bind_op, Prog.bind_ret]
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩⟩, Hk⟩
  sl_steps
  have z1 : (![0] : Fin 1 → Nat) = fun _ => 0 := funext fun a => by fin_cases a; rfl
  have z2 : (![0, 0] : Fin 2 → Nat) = fun _ => 0 := funext fun a => by fin_cases a <;> rfl
  iapply Hk
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists f6; isplitr; · ipureintro; exact e6
                  iexact H6
  iexists _
  isplitr
  rotate_left
  · iexact H7
  · ipureintro
    rw [read_write_all a7 z2, readAt_all a1.view z1, readAt_all a6.view z1, readAt_all a2.view z1,
      readAt_all a5.view z1, readAt_all a4.view z1, readAt_all a3.view z2, e1, e2, e3, e4, e5, e6]
    exact congrArg (fun y => k0_pay1 i tgt tok y dist boost x) (congrArg total (funext fun a => Fin.ext (by fin_cases a; rfl)))

end Cert.K

end
-- ==== Proof.Blocks.lean ====
/-
  The blocks of the launch.  The vocabulary of 100000 columns is cut into 98 blocks of 1024, and the last block overhangs
  the vocabulary's end.  Here: an element of a staging buffer that lies inside the vocabulary is the array's element at
  the block's place, whatever the buffer holds past the end; the whole result array the launch leaves, `outArr`; and that
  what the body computes at a grid point is, inside the vocabulary, that point's block of `outArr`.
-/
module

public import proofs.«01_k».proof.Proof.Body

@[expose] public section

noncomputable section

namespace Cert.K

open Cert.KernelIdeal Cert.KernelIdeal.Gen
open Idealize.ShloMosaic Idealize.ShloMosaic.TcCoe
open Idealize.ShloMosaic.Pipeline (Window Grid)

/-! ## Elements of any window's blocks -/

section Window

variable {σ : RefSig} {G : Grid} {Val : EltTy → Type} (w : Window σ G) (t : Fin G.N) (f : w.arr.view.ty.Contents Val)

/-- An element of a window's block, read off its array. -/
theorem read_blk_apply (hk : w.kind = .blocked) (y : (w.xblock (G.coords t)).Idx) (v : w.shape.Idx)
    (hv : ∀ a, (v a : ℕ) = w.index t a * w.size a + y a) :
    (w.blk t).view.read Val f y = w.arr.view.read Val f v := by
  have e : (w.rect t).emb y = v := funext fun a => Fin.ext ((w.rect_emb_val t y a hk).trans (hv a).symm)
  subst e; rfl

/-- An element of a staging buffer just filled with a block, at a place inside the array: the array's element there,
    whatever the buffer held before. -/
theorem fill_blk_apply (hk : w.kind = .blocked) (d : w.block.Idx → Val w.elt) (k : w.block.Idx) (v : w.shape.Idx)
    (hv : ∀ a, (v a : ℕ) = w.index t a * w.size a + k a) :
    w.fill (G.coords t) d ((w.blk t).view.read Val f) k = w.arr.view.read Val f v := by
  have hm : w.moved (G.coords t) k = true := (w.moved_iff _ k).mpr fun a => by
    have h := w.hclip (G.coords t) a
    have hva := (v a).isLt
    have hka := (k a).isLt
    rw [hk] at h
    rw [hv a] at hva
    show (k a).val < (w.clip (G.coords t) a).extent (w.size a)
    cases hc : w.clip (G.coords t) a with
    | none => exact hka
    | some n =>
      rw [hc] at h
      have h3 : w.index t a * w.size a + n = w.shape.size a := h.2.2
      show (k a).val < n
      omega
  unfold Window.fill
  rw [dif_pos hm]
  exact read_blk_apply w t f hk _ v hv

end Window

/-! ## The result array -/

variable {F : FTy → Type} [FloatOps F]

/-- The grid point whose block holds vocabulary column `v`. -/
def pointOf (v : Fin 100000) : Fin grid0.N := ⟨v.val / 1024, by rw [N_0]; have := v.isLt; omega⟩

/-- The result as one array of 256 rows by 100000 columns. -/
def outArr (tgt : Vec F S256 .i32) (total : F .f32) (tok dist boost : Vec F S100000 .f32) (x : Vec F S256x100000 .f32) :
    Vec F S256x100000 .f32 := fun i =>
  elemAt (grid0.coords (pointOf (i 1))) tgt total (tok (ix1 (i 1))) (dist (ix1 (i 1))) (boost (ix1 (i 1))) (x i)
    ⟨(i 1).val % 1024, Nat.mod_lt _ (by decide)⟩

/-- A grid point's coordinate is the point's number. -/
theorem coords_val (t : Fin grid0.N) : (grid0.coords t 0).val = t.val := by
  have h : t.val < 98 := lt_of_lt_of_eq t.isLt N_0
  rw [Pipeline.Grid.coords_val t (0 : Fin 1) (S := 1) (B := 98) (by decide) rfl]
  omega

/-- The block index along the vocabulary is the point's number. -/
theorem toNat_coord (t : Fin grid0.N) : (BitVec.ofNat 32 (grid0.coords t 0).val).toNat = t.val := by
  have h : t.val < 98 := lt_of_lt_of_eq t.isLt N_0
  rw [coords_val, BitVec.toNat_ofNat]
  omega

variable (m : (ℓ : Loc nD τ sig) → Buf (Elt F) ℓ)

/-- The result array as the launch computes it from the arrays it finds. -/
def result (c : Dev nD) : Vec F S256x100000 .f32 :=
  outArr (V m c main_call0_v1) (V m c main_arg5 (ix1 0)) (V m c main_arg4) (V m c main_arg3) (V m c main_arg2)
    (V m c main_call0_v0)

/-- Every point's targets block is the targets array. -/
theorem iblk_targets (c : Dev nD) (t : Fin cfg0.N) : iblk m c 0 t = V m c main_call0_v1 :=
  funext fun y => read_blk_apply win0_0 t _ rfl y y fun a => by
    match a with
    | ⟨0, _⟩ => show (y 0).val = 0 * 256 + (y 0).val; omega

/-- Every point's block of the token total is the token total. -/
theorem iblk_total (c : Dev nD) (t : Fin cfg0.N) : iblk m c 1 t = V m c main_arg5 :=
  funext fun y => read_blk_apply win0_1 t _ rfl y y fun a => by
    match a with
    | ⟨0, _⟩ => show (y 0).val = 0 * 1 + (y 0).val; omega

/-- Equal numbers give equal elements. -/
theorem elemAt_congr {i : grid0.Coords} {tgt : Vec F S256 .i32} {total : F .f32} {c : Fin 1024}
    {a a' b b' d d' e e' : F .f32} (ha : a = a') (hb : b = b') (hd : d = d') (he : e = e') :
    elemAt i tgt total a b d e c = elemAt i tgt total a' b' d' e' c := by
  subst ha hb hd he; rfl

/-- What the body computes at point `t`, inside the vocabulary, is `result`'s block at `t`; what the staging buffers
    held past the vocabulary's end (`d2` to `d5`) does not matter. -/
theorem cut_pay (c : Dev nD) (t : Fin cfg0.N) (d2 : S256x1024.Idx → Elt F .f32) (d3 d4 d5 : S1024.Idx → Elt F .f32) :
    win0_6.cut (grid0.coords t) (k0_pay1 (grid0.coords t) (V m c main_call0_v1)
        (win0_5.fill (grid0.coords t) d5 (iblk m c 5 t)) (V m c main_arg5 (ix1 0))
        (win0_4.fill (grid0.coords t) d4 (iblk m c 4 t)) (win0_3.fill (grid0.coords t) d3 (iblk m c 3 t))
        (win0_2.fill (grid0.coords t) d2 (iblk m c 2 t)))
      = (win0_6.blk t).view.read (Elt F) (result m c) := by
  funext y
  have e1 : win0_6.index t 1 = t.val := toNat_coord t
  have hy : (y 1).val < 1024 := (win0_6.xinj (grid0.coords t) y 1).isLt
  have hv : t.val * 1024 + (y 1).val < 100000 := by
    have h := ((win0_6.rect t).emb y 1).isLt
    rw [win0_6.rect_emb_val t y 1, e1] at h
    exact h
  have hr : (y 0).val < 256 := (win0_6.xinj (grid0.coords t) y 0).isLt
  have ex : win0_6.xinj (grid0.coords t) y = ix2 (⟨(y 0).val, hr⟩ : Fin 256) (⟨(y 1).val, hy⟩ : Fin 1024) := by
    funext a; match a with
    | ⟨0, _⟩ => rfl
    | ⟨1, _⟩ => rfl
  have hp : pointOf ⟨t.val * 1024 + (y 1).val, hv⟩ = t := Fin.ext (by show (t.val * 1024 + (y 1).val) / 1024 = t.val; omega)
  have hq : (⟨(t.val * 1024 + (y 1).val) % 1024, Nat.mod_lt _ (by decide)⟩ : Fin 1024) = ⟨(y 1).val, hy⟩ :=
    Fin.ext (by show (t.val * 1024 + (y 1).val) % 1024 = (y 1).val; omega)
  rw [read_blk_apply win0_6 t (result m c) rfl y (ix2 (⟨(y 0).val, hr⟩ : Fin 256) (⟨t.val * 1024 + (y 1).val, hv⟩ : Fin 100000))
    (fun a => by
      match a with
      | ⟨0, _⟩ => show (y 0).val = 0 * 256 + (y 0).val; omega
      | ⟨1, _⟩ => show t.val * 1024 + (y 1).val = win0_6.index t 1 * 1024 + (y 1).val; rw [e1])]
  show k0_pay1 _ _ _ _ _ _ _ (win0_6.xinj (grid0.coords t) y) = _
  rw [ex, pay_apply]
  have col : ∀ a : Fin 1, (ix1 (⟨t.val * 1024 + (y 1).val, hv⟩ : Fin 100000) a : ℕ)
      = ![(BitVec.ofNat 32 (grid0.coords t 0).val).toNat] a * S1024.size a + (ix1 (⟨(y 1).val, hy⟩ : Fin 1024) a : ℕ) := fun a => by
    match a with
    | ⟨0, _⟩ => show t.val * 1024 + (y 1).val = (BitVec.ofNat 32 (grid0.coords t 0).val).toNat * 1024 + (y 1).val; rw [toNat_coord]
  have r5 := fill_blk_apply (Val := Elt F) win0_5 t (V m c main_arg4) rfl d5 (ix1 ⟨(y 1).val, hy⟩) (ix1 ⟨t.val * 1024 + (y 1).val, hv⟩) col
  have r4 := fill_blk_apply (Val := Elt F) win0_4 t (V m c main_arg3) rfl d4 (ix1 ⟨(y 1).val, hy⟩) (ix1 ⟨t.val * 1024 + (y 1).val, hv⟩) col
  have r3 := fill_blk_apply (Val := Elt F) win0_3 t (V m c main_arg2) rfl d3 (ix1 ⟨(y 1).val, hy⟩) (ix1 ⟨t.val * 1024 + (y 1).val, hv⟩) col
  have r2 := fill_blk_apply (Val := Elt F) win0_2 t (V m c main_call0_v0) rfl d2 (ix2 ⟨(y 0).val, hr⟩ ⟨(y 1).val, hy⟩)
    (ix2 ⟨(y 0).val, hr⟩ ⟨t.val * 1024 + (y 1).val, hv⟩) (fun a => by
      match a with
      | ⟨0, _⟩ => show (y 0).val = 0 * 256 + (y 0).val; omega
      | ⟨1, _⟩ => exact col 0)
  show _ = elemAt (grid0.coords (pointOf ⟨t.val * 1024 + (y 1).val, hv⟩)) _ _ _ _ _ _
    ⟨(t.val * 1024 + (y 1).val) % 1024, Nat.mod_lt _ (by decide)⟩
  rw [hp, hq]
  exact elemAt_congr r5 r4 r3 r2

end Cert.K

end
-- ==== Proof.Run.lean ====
/-
  The launch: every execution of the whole program ends, with the six arguments as they were, every semaphore at zero, and
  the launch's output array holding `result`.
-/
module

public import proofs.«01_k».proof.Proof.Blocks
public import Idealize.ShloMosaic.Lib.Pipeline.ValueKit

@[expose] public section

noncomputable section

namespace Cert.K

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (g : Dev nD → PrngReg)

/-- What the launch is proved with: the arrays as it finds them, and what the seven staging buffers hold after the body at
    each point — the two whole operands, the four input blocks, and the block of `result`.  Past the vocabulary's end the
    zero word stands for words nothing names; no obligation looks there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => win0_4.fill (grid0.coords t) (fun _ => Scalar.ofBits .f32 0#32) (iblk m c 4 t)
    | ⟨5, _⟩ => win0_5.fill (grid0.coords t) (fun _ => Scalar.ofBits .f32 0#32) (iblk m c 5 t)
    | ⟨6, _⟩ => win0_6.fill (grid0.coords t) (fun _ => Scalar.ofBits .f32 0#32)
        ((win0_6.blk t).view.read (Elt F) (result m c))
  Φ _ := Pipeline.ΦA spec0 c
  q _ := fullShare
  owed _ := 0

/-! ## What the body finds -/

theorem before_0 (c : Dev nD) (t : Fin cfg0.N) (d) : (dats m 0 c).before 0 t d = V m c main_call0_v1 :=
  (before0_0_of m (dats m 0 c) rfl (fun _ => rfl) t d).trans (iblk_targets m c t)
theorem before_1 (c : Dev nD) (t : Fin cfg0.N) (d) : (dats m 0 c).before 1 t d = V m c main_arg5 :=
  (before0_1_of m (dats m 0 c) rfl (fun _ => rfl) t d).trans (iblk_total m c t)
/-- A window fetched at every point holds its block, filled out with whatever the buffer held. -/
theorem before_fetched (c : Dev nD) (w : Fin cfg0.W) (t : Fin cfg0.N) (h : (cfg0.win w).fetch t = true) (d) :
    (dats m 0 c).before w t d = (cfg0.win w).fill (grid0.coords t) d (iblk m c w t) := by
  unfold Dat.before; rw [if_pos h]; rfl
/-- The output's buffer holds words nothing names. -/
theorem before_6 (c : Dev nD) (t : Fin cfg0.N) (d) : (dats m 0 c).before 6 t d = d := by
  unfold Dat.before
  rw [if_neg (show ¬ (cfg0.win 6).fetch t = true from Bool.false_ne_true)]
  split
  · rfl
  · exact if_pos (flush0_6 _)

/-! ## The body's obligation -/

/-- A staging buffer still holding the block it was filled with, as a clipped window's obligation asks for it: the part
    inside the array is the block, and the rest is anything. -/
theorem filled_back {w : Window sig grid0} {c : Dev nD} (M : Memref sig .tc (.core w.stageSpace) w.block w.elt)
    (i : grid0.Coords) (d z : w.block.Idx → Elt F w.elt) (g : (w.xblock i).Idx → Elt F w.elt) :
    (owns (c : Thread nD τ) M fullShare (w.fill i d g) : sProp 𝕄)
      ⊢ iprop(∃ d', owns (c : Thread nD τ) M fullShare (w.fill i d' (w.cut i (w.fill i z g)))) := by
  iintro H
  iexists d
  rw [Window.cut_fill]
  iexact H

/-- The library's obligation on the body, at every point: `body_spec` on that point's staging buffers; past the
    vocabulary's end a clipped window's obligation states nothing, and inside it `cut_pay` says what was stored. -/
theorem body_obligation (c : Dev nD) :
    BodyObligationLoose (dats m 0 c) (defs₀ (F := F)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_fetched m c 2 t (fetch0_2 t) d2, before_fetched m c 3 t (fetch0_3 t) d3,
    before_fetched m c 4 t (fetch0_4 t) d4, before_fetched m c 5 t (fetch0_5 t) d5, before_6 m c t d6]
  iapply (body_spec (F := F) c (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (V m c main_call0_v1) (V m c main_arg5) (win0_2.fill (grid0.coords t) d2 (iblk m c 2 t))
    (win0_3.fill (grid0.coords t) d3 (iblk m c 3 t)) (win0_4.fill (grid0.coords t) d4 (iblk m c 4 t))
    (win0_5.fill (grid0.coords t) d5 (iblk m c 5 t)) d6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]
  · change _ ⊢ owns (c : Thread nD τ) (win0_0.stage (cfg0.slots t 0)) fullShare (iblk m c 0 t)
    rw [iblk_targets]
  isplitl [H1]
  · change _ ⊢ owns (c : Thread nD τ) (win0_1.stage (cfg0.slots t 1)) fullShare (iblk m c 1 t)
    rw [iblk_total]
  -- the clipped windows: stated on the columns inside the vocabulary only
  isplitl [H2]
  · iapply (filled_back (w := win0_2) (c := c) (win0_2.stage (cfg0.slots t 2)) (grid0.coords t) d2 _ (iblk m c 2 t))
    iexact H2
  isplitl [H3]
  · iapply (filled_back (w := win0_3) (c := c) (win0_3.stage (cfg0.slots t 3)) (grid0.coords t) d3 _ (iblk m c 3 t))
    iexact H3
  isplitl [H4]
  · iapply (filled_back (w := win0_4) (c := c) (win0_4.stage (cfg0.slots t 4)) (grid0.coords t) d4 _ (iblk m c 4 t))
    iexact H4
  isplitl [H5]
  · iapply (filled_back (w := win0_5) (c := c) (win0_5.stage (cfg0.slots t 5)) (grid0.coords t) d5 _ (iblk m c 5 t))
    iexact H5
  iexists _
  change _ ⊢ owns (c : Thread nD τ) (win0_6.stage (cfg0.slots t 6)) fullShare
    (win0_6.fill (grid0.coords t) _ (win0_6.cut (grid0.coords t) (win0_6.fill (grid0.coords t) _
      ((win0_6.blk t).view.read (Elt F) (result m c)))))
  rw [Window.cut_fill, ← cut_pay m c t d2 d3 d4 d5, Window.fill_cut]

/-! ## The launch -/

set_option backward.isDefEq.respectTransparency.types false in
/-- Every execution of the program, at any float values: it ends, with the pipeline's arrays at the computed contents, the
    other buffers as the host operations leave them, and every semaphore at zero. -/
theorem run : θ_run defs (onTc (τ := τ) (main (F := F))) (s₀ m g)
    (fun r => Pipeline.FramePost cfgs (dats m) 0 (Pipeline.afterTail₀ cfgs (dats m) 0 (V0 m) [hostOps1]) r
      ∧ r.2.sem = fun _ => 0) :=
  Pipeline.θ_run_frame_around cfgs (dats m) 0 launch0 defs₀ Variants.none m g main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := fun _ _ => rfl) (hΦ := fun _ _ => rfl)
    (Q' := fun r => Pipeline.FramePost cfgs (dats m) 0 (Pipeline.afterTail₀ cfgs (dats m) 0 (V0 m) [hostOps1]) r
      ∧ r.2.sem = fun _ => 0)
    (hQ' := fun _ h => h)

/-- The six arguments, after such a run, are as they were. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have rest (b : Ref sig .tc) (hb : b ∈ Pipeline.restRefs sig spec0) := (h c).2 b hb
  have arr (w : Fin cfg0.W) (hw : (cfg0.win w).isOut = false) := ((h c).1 w).trans ((dats m 0 c).arrAt_in w hw _)
  ⟨(rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (arr 3 rfl).trans (V_main_arg2 m c), (arr 4 rfl).trans (V_main_arg3 m c), (arr 5 rfl).trans (V_main_arg4 m c),
    (arr 1 rfl).trans (V_main_arg5 m c)⟩

/-- The output array after the run is `result`. -/
theorem final_result (c : Dev nD) : (dats m 0 c).arrAt 6 cfg0.N = result m c :=
  (dats m 0 c).arrAt_eq_of_cover 6 (result m c) (fun t _ => Window.cut_fill _ _ _ _)
    (Window.Covers.cover (w := win0_6) (by decide +kernel) (Memref.isWhole_whole _))

end Cert.K

end
-- ==== Proof.Transfer.lean ====
/-
  The program as printed and its idealized text are the same text, so a run of the second, read at the printed program's
  own float words, is a run of the first.
-/
module

public import proofs.«01_k».proof.Defs
public import proofs.«01_k».proof.Proof.Gen.Kernel
public import proofs.«01_k».proof.Proof.Gen.KernelIdeal

@[expose] public section

noncomputable section

namespace Cert.K

open Idealize.ShloMosaic Idealize.ShloMosaic.TcCoe Idealize.SL.Sem

variable {F : FTy → Type} [FloatOps F]

attribute [local instance] Cert.Kernel.Gen.facts Cert.KernelIdeal.Gen.facts

/-- The two programs' kernel bodies are the same, label by label. -/
theorem defs₀_eq : Cert.Kernel.defs₀ (F := F) = Cert.KernelIdeal.defs₀ (F := F) := by
  funext κ l a
  cases κ
  all_goals
    match l, a with
    | 0, (t, s) => rfl

/-- And so are their pipelines. -/
theorem defs_eq : Cert.Kernel.defs (F := F) = Cert.KernelIdeal.defs (F := F) :=
  congrArg (Pipeline.defs Cert.Kernel.pcfgs) defs₀_eq

end Cert.K

end
-- ==== Proof.Frames.lean ====
/-
  The frame claims: each program runs to its end from any memory, leaves its arguments as they were, and ends with every
  semaphore at zero.
-/
module

public import proofs.«01_k».proof.Proof.Run
public import proofs.«01_k».proof.Proof.Transfer
public import proofs.«01_k».proof.Proof.Gen.ReferenceIdeal.Run
public import Idealize.ShloMosaic.Lib.Claim

@[expose] public section

noncomputable section

namespace Cert.K

open Idealize.ShloMosaic Idealize.ShloMosaic.TcCoe Idealize.SL.Sem

attribute [local instance] Cert.Kernel.Gen.facts Cert.KernelIdeal.Gen.facts Cert.ReferenceIdeal.Gen.facts

/-- The kernel as printed, on the machine's own float words. -/
theorem frame_kernel : Cert.quiescent_Kernel := by
  intro m g _
  rw [defs_eq]
  exact (θ_run _ _ _).mono (fun r h => ⟨args_kept (F := Bits) m r h.1, h.2⟩) (run (F := Bits) m g)

/-- The idealized kernel. -/
theorem frame_kernelIdeal : Cert.quiescent_KernelIdeal := fun m g _ =>
  (θ_run _ _ _).mono (fun r h => ⟨args_kept (F := Ideal) m r h.1, h.2⟩) (run (F := Ideal) m g)

/-- The reference: its run, and it declares no semaphore. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run (F := Ideal) m g)

end Cert.K

end
-- ==== Proof.Result.lean ====
/-
  The kernel's whole result: the launch works on the logits and targets as host reshapes lay them out, and a last host
  reshape lays the launch's output out again.
-/
module

public import proofs.«01_k».proof.Proof.Run
public import Idealize.ShloMosaic.Lib.Claim

@[expose] public section

noncomputable section

namespace Cert.K

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ) (g : Dev nD → PrngReg)

/-- The launch finds the logits as 256 rows. -/
theorem V_logits (c : Dev nD) :
    V m c main_call0_v0
      = shapeCast S256x100000 (m ((c : Thread nD τ).loc main_arg0)) shapeCasts_S32x8x100000_S256x100000 := by
  entry_read
  rfl

/-- And the targets as one row. -/
theorem V_targets (c : Dev nD) :
    V m c main_call0_v1 = shapeCast S256 (m ((c : Thread nD τ).loc main_arg1)) shapeCasts_S32x8_S256 := by
  entry_read
  rfl

/-- The program's result, from its arguments. -/
def kernelOut (logits : Vec F S32x8x100000 .f32) (targets : Vec F S32x8 .i32) (boost dist tok : Vec F S100000 .f32)
    (total : Vec F S1 .f32) : Vec F S32x8x100000 .f32 :=
  shapeCast S32x8x100000
    (outArr (shapeCast S256 targets shapeCasts_S32x8_S256) (total (ix1 0)) tok dist boost
      (shapeCast S256x100000 logits shapeCasts_S32x8x100000_S256x100000))
    shapeCasts_S256x100000_S32x8x100000

/-- The result buffer after the whole program. -/
theorem final_main_v0 (c : Dev nD) :
    Pipeline.afterTail₀ cfgs (dats m) 0 (V0 m) [hostOps1] c main_v0
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have h : Pipeline.withArrays spec0 c (V0 m c) (fun w => (dats m 0 c).arrAt w cfg0.N) (Proc.devRef .tc main_call0_v2)
      = result m c :=
    (Pipeline.withArrays_arr spec0 launch0.win.arr_inj c (V0 m c) _ 6).trans (final_result m c)
  unfold Pipeline.afterTail₀
  show shapeCast S32x8x100000 (Pipeline.withArrays spec0 c (V0 m c) (fun w => (dats m 0 c).arrAt w cfg0.N)
    (Proc.devRef .tc main_call0_v2)) shapeCasts_S256x100000_S32x8x100000 = _
  rw [h]
  unfold result kernelOut
  rw [V_logits, V_targets, V_main_arg2, V_main_arg3, V_main_arg4, V_main_arg5]

/-- Every execution of the kernel ends with the result `kernelOut` computes and the arguments as they were. -/
theorem kernel_run : θ_run defs (onTc (τ := τ) (main (F := F))) ⟨m, fun _ => 0, g⟩ (fun r => ∀ c : Dev nD,
    r.2.mem ((c.tc : Thread nD τ).loc main_v0)
        = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c =>
    ⟨((h.1 c).2 main_v0 (Pipeline.mem_restRefs_of main_v0 (by decide) (by decide))).trans (final_main_v0 m c),
      args_kept m r h.1 c⟩) (run m g)

end Cert.K

end
-- ==== Proof.Hist.lean ====
/-
  The reference's histogram: a scatter-add of ones, 256 index words into 100000 bins, counts in each bin the index words
  that, read signed, are its number.
-/
module

public import proofs.«01_k».proof.Proof.Gen.ReferenceIdeal
public import Idealize.ShloMosaic.Lib.Routing.OpsPair
public import Idealize.ShloMosaic.Lib.Routing.Ops
public import Idealize.ShloMosaic.PureOps.Ideal

@[expose] public section

noncomputable section

namespace Cert.K

open Cert.ReferenceIdeal Cert.ReferenceIdeal.Gen
open Idealize.ShloMosaic Idealize.ShloMosaic.ValueIdx Idealize.ShloMosaic.Routing

/-- The scatter's dimension numbers. -/
abbrev histDims : ScatterDims S100000 S256x1 S256 := scatter_S100000_S256x1_S256_n_0_0_1

/-- One at a hit, zero elsewhere. -/
def hit (idx : IVec S256x1 32) (v : Fin 100000) (k : Fin 256) : ℕ :=
  if (idx (ix2 k (0 : Fin 1))).toInt = (v.val : Int) then 1 else 0

theorem sum_hit_le (idx : IVec S256x1 32) (v : Fin 100000) : ∑ k, hit idx v k ≤ 256 :=
  (Finset.sum_le_card_nsmul Finset.univ (hit idx v) 1 fun k _ => by unfold hit; split <;> omega).trans (by simp)

/-- Update `k` lands in bin `v` exactly when its index word is `v`. -/
theorem hist_lands (idx : IVec S256x1 32) (k : Fin 256) (v : Fin 100000) :
    histDims.resultIdx? (ix1 k) idx = some (ix1 v) ↔ (idx (ix2 k (0 : Fin 1))).toInt = (v.val : Int) := by
  have hstart : histDims.start (ix1 k) idx 0 = (idx (ix2 k (0 : Fin 1))).toInt := by
    have hsi : histDims.siIdx (ix1 k) ⟨0, by decide⟩ = ix2 k (0 : Fin 1) := by
      funext b
      match b with
      | ⟨0, _⟩ => rfl
      | ⟨1, _⟩ => rfl
    exact congrArg (fun j => (idx j).toInt) hsi
  have hwin : histDims.window (ix1 k) 0 = 0 := rfl
  rw [resultIdx?_ix1, hstart, hwin]
  simp

/-- The histogram at a bin. -/
theorem hist_apply (x0 : IVec S100000 32) (hx0 : ∀ i, x0 i = 0#32) (idx : IVec S256x1 32) (upd : IVec S256 32)
    (hupd : ∀ i, upd i = 1#32) (v : Fin 100000) :
    Host.scatter histDims IntOp.addi x0 idx upd (ix1 v) = BitVec.ofNat 32 (∑ k, hit idx v k) := by
  have hstep : ∀ (a : BitVec 32) (n : Fin S256.numel),
      (if histDims.resultIdx? (S256.rowMajor.symm n) idx = some (ix1 v) then IntOp.addi a (upd (S256.rowMajor.symm n)) else a)
        = IntOp.addi a (BitVec.ofNat 32 (hit idx v (n.cast (numel1 256)))) := fun a n => by
    rw [hupd, symm1 (N := 256) n]
    have hl := hist_lands idx (n.cast (numel1 256)) v
    unfold hit
    by_cases h : (idx (ix2 (n.cast (numel1 256)) (0 : Fin 1))).toInt = (v.val : Int)
    · rw [if_pos (hl.2 h), if_pos h]
    · rw [if_neg fun q => h (hl.1 q), if_neg h]
      exact (BitVec.add_zero a).symm
  rw [scatter_at]
  simp only [hstep]
  rw [foldl_addi_ofNat _ _ _ (fun n _ => rfl) _ 0 (hx0 _), Nat.zero_add, ← Fin.sum_univ_def]
  exact congrArg _ (Equiv.sum_comp (finCongr (numel1 256)) (hit idx v))

/-- A small count, as a word, converts to itself. -/
theorem sitofp_count {n : ℕ} (h : n ≤ 256) : (FloatOps.sitofp .f32 (BitVec.ofNat 32 n) : Ideal .f32) = ((n : ℕ) : EReal) := by
  show (((BitVec.ofNat 32 n).toInt : ℝ) : EReal) = _
  rw [StableHlo.Predicate.toInt_ofNat_small n (lt_of_le_of_lt h (by norm_num)), Int.cast_natCast, EReal.coe_natCast]

/-- The histogram at a bin as a number: the sum of the hits. -/
theorem hist_real (x0 : IVec S100000 32) (hx0 : ∀ i, x0 i = 0#32) (idx : IVec S256x1 32) (upd : IVec S256 32)
    (hupd : ∀ i, upd i = 1#32) (v : Fin 100000) :
    (FloatOps.sitofp .f32 (Host.scatter histDims IntOp.addi x0 idx upd (ix1 v)) : Ideal .f32)
      = ∑ k, ((hit idx v k : ℕ) : EReal) := by
  rw [hist_apply x0 hx0 idx upd hupd, sitofp_count (sum_hit_le idx v)]
  exact Nat.cast_sum (R := EReal) Finset.univ (hit idx v)

end Cert.K

end
-- ==== Proof.Count.lean ====
/-
  The two programs count the same targets. The kernel compares every target with the column number; the reference sends
  every target, clamped from below at zero and wrapped, to a bin. On nonnegative targets the clamp and the wrap do nothing.
-/
module

public import proofs.«01_k».proof.Proof.Hist
public import Idealize.ShloMosaic.Lib.Pointwise
public import Idealize.ShloMosaic.Lib.WordArith
public import Idealize.ShloMosaic.Lib.Affine

@[expose] public section

noncomputable section

namespace Cert.K

open Cert.ReferenceIdeal Cert.ReferenceIdeal.Gen
open Idealize.ShloMosaic

/-- The targets clamped from below at zero. -/
def clamped (tgt : IVec S256 32) : IVec S256 32 :=
  maxsi (broadcastInDim S256 ![] bcast_S_S256 (id (constantI S_ 32 0#32))) tgt

/-- The index words the reference's histogram scatters by. -/
def bins (tgt : IVec S256 32) : IVec S256x1 32 :=
  broadcastInDim S256x1 ![0] bcast_S256_S256x1_0
    (select (cmpi .slt (clamped tgt) (broadcastInDim S256 ![] bcast_S_S256 (constantI S_ 32 0#32)))
      (addi (clamped tgt) (broadcastInDim S256 ![] bcast_S_S256 (constantI S_ 32 100000#32))) (clamped tgt))

/-- A nonnegative target's index word is the target. -/
theorem bins_apply (tgt : IVec S256 32) (k : Fin 256) (h : 0 ≤ (tgt (ValueIdx.ix1 k)).toInt) :
    bins tgt (ValueIdx.ix2 k (0 : Fin 1)) = tgt (ValueIdx.ix1 k) := by
  have hmax : IntOp.maxsi 0#32 (tgt (ValueIdx.ix1 k)) = tgt (ValueIdx.ix1 k) :=
    BitVec.toInt_inj.1 (by rw [WordArith.toInt_maxsi_zero, max_eq_right h])
  pointwise [bins, clamped]
  show Scalar.select (IntOp.cmpi .slt (IntOp.maxsi 0#32 (tgt (ValueIdx.ix1 k))) 0#32)
    (IntOp.addi (IntOp.maxsi 0#32 (tgt (ValueIdx.ix1 k))) 100000#32) (IntOp.maxsi 0#32 (tgt (ValueIdx.ix1 k))) = _
  rw [hmax]
  exact if_neg fun q => absurd (IntOp.cmpi_slt.1 q) (not_lt.2 (show (0#32 : BitVec 32).toInt ≤ _ from h))

/-- The number, as a word, of column `c` of the block at grid point `t`. -/
theorem column_word (t c : ℕ) :
    IntOp.addi (Scalar.muli (BitVec.ofNat 32 t) 1024#32) (BitVec.ofNat 32 c) = BitVec.ofNat 32 (t * 1024 + c) := by
  show BitVec.ofNat 32 t * BitVec.ofNat 32 1024 + BitVec.ofNat 32 c = _
  rw [BitVec.ofNat_add, BitVec.ofNat_mul]

/-- A nonnegative word is the word of a column number exactly when it is the number. -/
theorem eq_word_iff (w : BitVec 32) (v : Fin 100000) : w = BitVec.ofNat 32 v.val ↔ w.toInt = (v.val : Int) := by
  have e : (BitVec.ofNat 32 v.val).toInt = (v.val : Int) :=
    StableHlo.Predicate.toInt_ofNat_small _ (lt_of_lt_of_le v.isLt (by norm_num))
  rw [← e, BitVec.toInt_inj]

/-- The kernel's mark of one target is the reference's hit. -/
theorem mark_eq_hit (tgt : IVec S256 32) (htgt : ∀ k : Fin 256, 0 ≤ (tgt (ValueIdx.ix1 k)).toInt) (v : Fin 100000) (k : Fin 256) :
    (FloatOps.sitofp .f32 ((IntOp.cmpi .eq (tgt (ValueIdx.ix1 k)) (BitVec.ofNat 32 v.val)).setWidth 32) : Ideal .f32)
      = ((hit (bins tgt) v k : ℕ) : EReal) := by
  unfold hit
  rw [bins_apply tgt k (htgt k)]
  have h := eq_word_iff (tgt (ValueIdx.ix1 k)) v
  by_cases e : tgt (ValueIdx.ix1 k) = BitVec.ofNat 32 v.val
  · rw [if_pos (h.1 e), e]
    rw [IntOp.cmpi_eq.2 rfl]
    exact sitofp_count (n := 1) (by norm_num)
  · rw [if_neg fun q => e (h.2 q)]
    have : IntOp.cmpi .eq (tgt (ValueIdx.ix1 k)) (BitVec.ofNat 32 v.val) = 0#1 := by
      show BitVec.ofBool (tgt (ValueIdx.ix1 k) == BitVec.ofNat 32 v.val) = 0#1
      rw [beq_false_of_ne e]
      rfl
    rw [this]
    exact sitofp_count (n := 0) (by norm_num)

end Cert.K

end
-- ==== Proof.Equation.lean ====
/-
  The value equation: on nonnegative targets the kernel's result is the reference's, element by element.
-/
module

public import proofs.«01_k».proof.Proof.Result
public import proofs.«01_k».proof.Proof.Count
public import Idealize.ShloMosaic.Lib.IdealHost

@[expose] public section

noncomputable section

namespace Cert.K

open Cert.ReferenceIdeal Cert.ReferenceIdeal.Gen
open Idealize.ShloMosaic

/-- The reference's histogram of the targets. -/
def counts (targets : IVec S32x8 32) : IVec S100000 32 :=
  Host.scatter scatter_S100000_S256x1_S256_n_0_0_1 IntOp.addi
    (broadcastInDim S100000 ![] bcast_S_S100000 (constantI S_ 32 0#32))
    (bins (shapeCast S256 targets shapeCasts_S32x8_S256))
    (broadcastInDim S256 ![] bcast_S_S256 (constantI S_ 32 1#32))

/-- What the reference adds to every row of the logits, from the histogram. -/
def refBoost (hist : IVec S100000 32) (boost dist tok : FVec Ideal S100000 .f32) (total : FVec Ideal S1 .f32) :
    FVec Ideal S100000 .f32 :=
  Host.log (select
    (cmpf .olt
      (Host.divf
        (Host.divf (addf tok (sitofp .f32 hist))
          (broadcastInDim S100000 ![0] bcast_S1_S100000_0
            (maximumf (broadcastInDim S1 ![] bcast_S_S1 (id (constant S_ .f32 0x3F800000#32)))
              (addf total (broadcastInDim S1 ![] bcast_S_S1 (constant S_ .f32 0x43800000#32))))))
        (maximumf (broadcastInDim S100000 ![] bcast_S_S100000 (id (constant S_ .f32 0x322BCC77#32))) dist))
      (broadcastInDim S100000 ![] bcast_S_S100000 (constant S_ .f32 0x3C23D70A#32)))
    (mulf boost (broadcastInDim S100000 ![] bcast_S_S100000 (constant S_ .f32 0x3F8CCCCD#32)))
    (mulf boost (broadcastInDim S100000 ![] bcast_S_S100000 (constant S_ .f32 0x3F7D70A4#32))))

/-- The reference's result, from its arguments. -/
def refOut (logits : FVec Ideal S32x8x100000 .f32) (targets : IVec S32x8 32) (boost dist tok : FVec Ideal S100000 .f32)
    (total : FVec Ideal S1 .f32) : FVec Ideal S32x8x100000 .f32 :=
  addf logits
    (broadcastInDim S32x8x100000 ![0, 1, 2] bcast_S1x1x100000_S32x8x100000_0_1_2
      (broadcastInDim S1x1x100000 ![2] bcast_S100000_S1x1x100000_2 (refBoost (counts targets) boost dist tok total)))

/-- The logarithm of a word's new boost, from the number `n` of its occurrences: the boost grows when the word's share of
    all tokens is under a hundredth of its target share, else it shrinks. -/
def logBoost (n tok total dist boost : EReal) : EReal :=
  Ideal.log
    (if Ideal.div (Ideal.div (tok + n) (max (total + Ideal.ofBits .f32 0x43800000#32) 1))
          (max dist (Ideal.ofBits .f32 0x322BCC77#32)) < Ideal.ofBits .f32 0x3C23D70A#32
      then boost * Ideal.ofBits .f32 0x3F8CCCCD#32
      else boost * Ideal.ofBits .f32 0x3F7D70A4#32)

/-- What the reference adds at a column. -/
theorem refBoost_apply (hist : IVec S100000 32) (boost dist tok : FVec Ideal S100000 .f32) (total : FVec Ideal S1 .f32)
    (v : Fin 100000) :
    refBoost hist boost dist tok total (ix1 v)
      = logBoost (FloatOps.sitofp (F := Ideal) .f32 (hist (ix1 v))) (tok (ix1 v)) (total (ix1 0)) (dist (ix1 v)) (boost (ix1 v)) := by
  have one : (constant S_ .f32 0x3F800000#32 : FVec Ideal S_ .f32) ix0 = 1 := Ideal.ofBits_one_f32
  have floor : (constant S_ .f32 0x322BCC77#32 : FVec Ideal S_ .f32) ix0 = Ideal.ofBits .f32 0x322BCC77#32 := rfl
  pointwise [refBoost]
  unfold logBoost
  rw [id_eq, id_eq, one, floor, max_comm 1, max_comm (Ideal.ofBits .f32 0x322BCC77#32)]

/-- The kernel's element, from the number of targets that are the column. -/
theorem elemAt_apply (i : Cert.KernelIdeal.grid0.Coords) (tgt : Vec Ideal S256 .i32) (total tok dist boost x : Ideal .f32)
    (c : Fin 1024) :
    elemAt i tgt total tok dist boost x c
      = x + logBoost
          (∑ k : Fin 256, FloatOps.sitofp (F := Ideal) .f32 ((IntOp.cmpi .eq (tgt (ValueIdx.ix1 k))
            (IntOp.addi (Scalar.muli (BitVec.ofNat 32 (i 0).val) 1024#32) (BitVec.ofNat 32 c.val))).setWidth 32))
          tok total dist boost := by
  pointwise [Cert.KernelIdeal.Gen.k0_pay1, elemAt]
  rfl

/-- The reference's histogram at a column is the number of targets that are the column, as the kernel counts them. -/
theorem counts_apply (targets : IVec S32x8 32) (h : ∀ i, 0 ≤ (targets i).toInt) (v : Fin 100000) :
    (FloatOps.sitofp .f32 (counts targets (ix1 v)) : Ideal .f32)
      = ∑ k : Fin 256, FloatOps.sitofp (F := Ideal) .f32
          ((IntOp.cmpi .eq (shapeCast S256 targets shapeCasts_S32x8_S256 (ValueIdx.ix1 k)) (BitVec.ofNat 32 v.val)).setWidth 32) :=
  (hist_real _ (fun _ => rfl) _ _ (fun _ => rfl) v).trans
    (Finset.sum_congr rfl fun k _ => (mark_eq_hit _ (fun _ => h _) v k).symm)

/-- On nonnegative targets the kernel's result is the reference's. -/
theorem kernelOut_eq (logits : FVec Ideal S32x8x100000 .f32) (targets : IVec S32x8 32)
    (boost dist tok : FVec Ideal S100000 .f32) (total : FVec Ideal S1 .f32) (h : ∀ i, 0 ≤ (targets i).toInt) :
    kernelOut (F := Ideal) logits targets boost dist tok total = refOut logits targets boost dist tok total := by
  funext j
  idx_vars j
  pointwise [refOut, kernelOut, outArr]
  rw [elemAt_apply, refBoost_apply, counts_apply targets h, coords_val]
  dsimp only [pointOf]
  rw [column_word, Nat.div_add_mod']

end Cert.K

end
-- ==== Proof.Nonneg.lean ====
/-
  The precondition of the value claim, read element by element: every target is a nonnegative number.
-/
module

public import proofs.«01_k».proof.Defs
public import Idealize.ShloMosaic.Lib.Pointwise
public import Idealize.ShloMosaic.Lib.ReduceAll

@[expose] public section

noncomputable section

namespace Cert.K

open Idealize.ShloMosaic Idealize.ShloMosaic.TcCoe

/-- The side conditions the precondition's operations take. -/
theorem nonneg_facts : Cert.Pre_targets_nonneg.Facts where
  bcast_S_S32x8 := by decide
  reducesTo_S32x8_S_d0_1 := by decide
  h_S_ := by decide

attribute [local instance] nonneg_facts

/-- Under the precondition every target, read signed, is at least zero. -/
theorem target_nonneg (m : (ℓ : Loc Cert.KernelIdeal.nD Cert.KernelIdeal.τ Cert.KernelIdeal.sig) → Buf (Elt Ideal) ℓ)
    (h : Cert.Pre_KernelIdeal_targets_nonneg m) (c : Dev Cert.KernelIdeal.nD) (i : Cert.Pre_targets_nonneg.S32x8.Idx) :
    0 ≤ BitVec.toInt (n := 32) (m ((c.tc : Thread Cert.KernelIdeal.nD Cert.KernelIdeal.τ).loc Cert.KernelIdeal.main_arg1) i) := by
  have : Subsingleton Cert.Pre_targets_nonneg.S_.Idx := ⟨fun a b => funext fun k => k.elim0⟩
  have e := Host.reduce_andi_all _ _ _ _ _ (congrFun (h c) (fun k => k.elim0)) i
  exact IntOp.cmpi_sge.1 e

end Cert.K

end
-- ==== Proof.Algebraic.lean ====
/-
  The value claim: from arguments with nonnegative targets, the idealized kernel and the reference end with the same result.
-/
module

public import proofs.«01_k».proof.Proof.Equation
public import proofs.«01_k».proof.Proof.Nonneg
public import proofs.«01_k».proof.Proof.Gen.ReferenceIdeal.Run

@[expose] public section

noncomputable section

namespace Cert.K

open Idealize.ShloMosaic Idealize.ShloMosaic.TcCoe Idealize.SL.Sem

attribute [local instance] Cert.KernelIdeal.Gen.facts Cert.ReferenceIdeal.Gen.facts nonneg_facts

/-- The kernel's result is the reference's, at every element and on all extended reals. -/
theorem algebraic : Cert.algebraic_KernelIdeal_ReferenceIdeal_pre_targets_nonneg := fun m g m' g' hpre hagree =>
  ⟨_, kernel_run (F := Ideal) m g,
    (θ_run _ _ _).mono (fun r h c => by
      obtain ⟨h0, h1, h2, h3, h4, h5⟩ := hagree c
      refine ⟨(h c).1.trans ?_, (h c).2⟩
      rw [h0, h1, h2, h3, h4, h5]
      exact (kernelOut_eq _ _ _ _ _ _ (target_nonneg m hpre c)).symm)
    (Cert.ReferenceIdeal.Value.run (F := Ideal) m' g')⟩

end Cert.K

end
-- ==== Proof.lean ====
/-
  The certificate: the five claims, each proved in a module of its own, put together.
    `Proof/Payload.lean`, `Body.lean`    one grid point's arithmetic, and the kernel body that does it
    `Proof/Blocks.lean`, `Run.lean`      the blocks of the arrays, and the run of the whole launch
    `Proof/Transfer.lean`, `Frames.lean` the frames
    `Proof/Result.lean`                  the kernel's result in terms of its arguments
    `Proof/Nonneg.lean`                  the precondition, element by element
    `Proof/Hist.lean`, `Count.lean`      the reference's histogram, and why both programs count alike
    `Proof/Equation.lean`, `Algebraic.lean`  the value equation and the claim it proves
-/
module

public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.K.nonneg_facts,
    Cert.K.frame_kernel,
    Cert.K.frame_kernelIdeal,
    fun m g _ => Cert.K.frame_kernelIdeal m g trivial,
    Cert.K.frame_referenceIdeal,
    fun m g _ => Cert.K.frame_referenceIdeal m g trivial,
    trivial,
    Cert.K.algebraic⟩

end Cert.Proof

end
